-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x16384 : Shape := ⟨3, ![32, 1, 16384]⟩
abbrev S8192x6656 : Shape := ⟨2, ![8192, 6656]⟩
abbrev S512x6656 : Shape := ⟨2, ![512, 6656]⟩
abbrev S32x16384 : Shape := ⟨2, ![32, 16384]⟩
abbrev S32x6656 : Shape := ⟨2, ![32, 6656]⟩
abbrev S32x1024 : Shape := ⟨2, ![32, 1024]⟩
abbrev S32x128 : Shape := ⟨2, ![32, 128]⟩
abbrev S32x128x1 : Shape := ⟨3, ![32, 128, 1]⟩
abbrev S512x256 : Shape := ⟨2, ![512, 256]⟩
abbrev S128x256 : Shape := ⟨2, ![128, 256]⟩
abbrev S128x8x256 : Shape := ⟨3, ![128, 8, 256]⟩
abbrev S128x1x256 : Shape := ⟨3, ![128, 1, 256]⟩
abbrev S1024x256 : Shape := ⟨2, ![1024, 256]⟩
abbrev S32x256 : Shape := ⟨2, ![32, 256]⟩
abbrev S1x256 : Shape := ⟨2, ![1, 256]⟩
abbrev S32x1x6656 : Shape := ⟨3, ![32, 1, 6656]⟩

abbrev nBuf : Space → Nat
  | .hbm => 6
  | .vmem => 8
  | .smem => 0
  | _ => 0

abbrev bufTy : (tb : Table) → Fin (tcTables nBuf tb) → BufTy
  | .hbm, ⟨0, _⟩ => ⟨S32x1x16384, .bf16⟩
  | .hbm, ⟨1, _⟩ => ⟨S8192x6656, .i8⟩
  | .hbm, ⟨2, _⟩ => ⟨S512x6656, .bf16⟩
  | .hbm, ⟨3, _⟩ => ⟨S32x16384, .bf16⟩
  | .hbm, ⟨4, _⟩ => ⟨S32x6656, .bf16⟩
  | .hbm, ⟨5, _⟩ => ⟨S32x1x6656, .bf16⟩
  | .local _ .vmem, ⟨0, _⟩ => ⟨S32x1024, .bf16⟩
  | .local _ .vmem, ⟨1, _⟩ => ⟨S32x1024, .bf16⟩
  | .local _ .vmem, ⟨2, _⟩ => ⟨S512x6656, .i8⟩
  | .local _ .vmem, ⟨3, _⟩ => ⟨S512x6656, .i8⟩
  | .local _ .vmem, ⟨4, _⟩ => ⟨S32x6656, .bf16⟩
  | .local _ .vmem, ⟨5, _⟩ => ⟨S32x6656, .bf16⟩
  | .local _ .vmem, ⟨6, _⟩ => ⟨S32x6656, .bf16⟩
  | .local _ .vmem, ⟨7, _⟩ => ⟨S32x6656, .f32⟩
  | _, _ => ⟨S32x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v3334 : BitVec 1 := Scalar.cmpi .eq arg0 c15_i32
  let v3335 : BitVec 32 := Scalar.extui v3334
  let c0_i32_352 : BitVec 32 := 0#32
  let v3336 : BitVec 1 := Scalar.cmpi .ne v3335 c0_i32_352
  v3336

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x6656 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x6656 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x6656 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S32x1x16384 : Shape := ⟨3, ![32, 1, 16384]⟩
abbrev S8192x6656 : Shape := ⟨2, ![8192, 6656]⟩
abbrev S512x6656 : Shape := ⟨2, ![512, 6656]⟩
abbrev S512x16x6656 : Shape := ⟨3, ![512, 16, 6656]⟩
abbrev S512x1x6656 : Shape := ⟨3, ![512, 1, 6656]⟩
abbrev S_ : Shape := ⟨0, ![]⟩
abbrev S32x1x512x32 : Shape := ⟨4, ![32, 1, 512, 32]⟩
abbrev S32x1x512x16 : Shape := ⟨4, ![32, 1, 512, 16]⟩
abbrev S32x1x6656 : Shape := ⟨3, ![32, 1, 6656]⟩

abbrev nBuf : Space → Nat
  | .hbm => 31
  | .vmem => 0
  | .smem => 0
  | _ => 0

abbrev bufTy : (tb : Table) → Fin (tcTables nBuf tb) → BufTy
  | .hbm, ⟨0, _⟩ => ⟨S32x1x16384, .bf16⟩
  | .hbm, ⟨1, _⟩ => ⟨S8192x6656, .i8⟩
  | .hbm, ⟨2, _⟩ => ⟨S512x6656, .bf16⟩
  | .hbm, ⟨3, _⟩ => ⟨S512x16x6656, .i8⟩
  | .hbm, ⟨4, _⟩ => ⟨S512x16x6656, .i32⟩
  | .hbm, ⟨5, _⟩ => ⟨S512x1x6656, .bf16⟩
  | .hbm, ⟨6, _⟩ => ⟨S_, .i32⟩
  | .hbm, ⟨7, _⟩ => ⟨S512x16x6656, .i32⟩
  | .hbm, ⟨8, _⟩ => ⟨S512x16x6656, .i32⟩
  | .hbm, ⟨9, _⟩ => ⟨S512x16x6656, .bf16⟩
  | .hbm, ⟨10, _⟩ => ⟨S_, .bf16⟩
  | .hbm, ⟨11, _⟩ => ⟨S512x16x6656, .bf16⟩
  | .hbm, ⟨12, _⟩ => ⟨S512x16x6656, .bf16⟩
  | .hbm, ⟨13, _⟩ => ⟨S512x16x6656, .bf16⟩
  | .hbm, ⟨14, _⟩ => ⟨S512x16x6656, .bf16⟩
  | .hbm, ⟨15, _⟩ => ⟨S_, .i32⟩
  | .hbm, ⟨16, _⟩ => ⟨S512x16x6656, .i32⟩
  | .hbm, ⟨17, _⟩ => ⟨S512x16x6656, .i32⟩
  | .hbm, ⟨18, _⟩ => ⟨S512x16x6656, .bf16⟩
  | .hbm, ⟨19, _⟩ => ⟨S_, .bf16⟩
  | .hbm, ⟨20, _⟩ => ⟨S512x16x6656, .bf16⟩
  | .hbm, ⟨21, _⟩ => ⟨S512x16x6656, .bf16⟩
  | .hbm, ⟨22, _⟩ => ⟨S512x16x6656, .bf16⟩
  | .hbm, ⟨23, _⟩ => ⟨S512x16x6656, .bf16⟩
  | .hbm, ⟨24, _⟩ => ⟨S32x1x512x32, .bf16⟩
  | .hbm, ⟨25, _⟩ => ⟨S32x1x512x16, .bf16⟩
  | .hbm, ⟨26, _⟩ => ⟨S32x1x6656, .f32⟩
  | .hbm, ⟨27, _⟩ => ⟨S32x1x512x16, .bf16⟩
  | .hbm, ⟨28, _⟩ => ⟨S32x1x6656, .f32⟩
  | .hbm, ⟨29, _⟩ => ⟨S32x1x6656, .f32⟩
  | .hbm, ⟨30, _⟩ => ⟨S32x1x6656, .bf16⟩
  | _, _ => ⟨S32x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Proof.Tile.lean ====
/-
  What one grid point computes, written once for all 26 column tiles: the permuted block of `x`, the weights read off
  the packed bytes, the scale rows, and the tile's new accumulator.
-/
module

public import proofs.«01_k».proof.Proof.Gen.KernelIdeal.Frame
public import Idealize.ShloMosaic.Lib.Pipeline.Value
public import Idealize.ShloMosaic.Lib.Pipeline.ValueKit.Tiles

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-! ## The tile -/

/-- The column each lane of a 128-lane slice of `x` is taken from, before the wrap of negative indices. -/
def laneSrc : IVec S32x128 32 := k0_pay8 k0_pay5 k0_pay6 2#32 k0_pay7

/-- One 128-lane slice of `x` with its lanes permuted. -/
def permute (v : Vec F S32x128 .bf16) : FVec F S32x128 .bf16 :=
  truncf .bf16 (dynamicGather 1 (extf .f32 (shapeCast S32x128 v shapeCasts_S32x128_S32x128) bitsLt_bf16_f32)
    (shapeCast S32x128 (shapeCast S32x128x1
      (select (cmpi .slt laneSrc (broadcast S32x128 0#32)) (addi laneSrc (broadcast S32x128 128#32)) laneSrc)
      shapeCasts_S32x128_S32x128x1) shapeCasts_S32x128x1_S32x128)) bitsLt_bf16_f32

/-- The block of `x` with each of its eight 128-lane slices permuted. -/
def mix (x : Vec F S32x1024 .bf16) : FVec F S32x1024 .bf16 :=
  concatenate S32x1024 1
    (List.ofFn fun k : Fin 8 => ⟨S32x128, permute (View.ld x (Rect.unit ![0, 128 * k.val] ![32, 128]
      (fun a => by
        have := k.isLt
        match a with
        | ⟨0, _⟩ => exact le_refl 32
        | ⟨1, _⟩ => show 128 * k.val + 128 ≤ 1024; omega)))⟩)
    concatenates_S32x128_S32x128_S32x128_S32x128_S32x128_S32x128_S32x128_S32x128_S32x1024_d1

/-- The signed four-bit weights of a tile of packed bytes: each 32-bit word of four bytes, its top bit of every four
    flipped, gives eight rows. -/
def weights (w : Vec F S512x256 .i8) : IVec S1024x256 32 :=
  shapeCast S1024x256
    (shrsi
      (shli
        (broadcastTo S128x8x256
          (shapeCast S128x1x256 (shapeCast S128x1x256
            (xori (bitcast S128x256 32 w bitcasts_S512x256_w8_S128x256_w32) (broadcast S128x256 2290649224#32))
            shapeCasts_S128x256_S128x1x256) shapeCasts_S128x1x256_S128x1x256)
          broadcasts_S128x1x256_S128x8x256)
        (subi (broadcast S128x8x256 28#32)
          (muli (broadcast S128x8x256 4#32) (iota .tc S128x8x256 32 [1] iota_S128x8x256_d1_w32))))
      (broadcast S128x8x256 28#32))
    shapeCasts_S128x8x256_S1024x256

/-- Row `g` of a tile's scales is a slice of them. -/
theorem scaleRow_slices (g : Fin 32) : S32x256.Slices ![g.val, 0] S1x256 :=
  ⟨rfl, fun a => by
    have := g.isLt
    match a with
    | ⟨0, _⟩ => show g.val + 1 ≤ 32; omega
    | ⟨1, _⟩ => exact le_refl 256⟩

/-- The scale of every weight row of a tile: row `g` of the scales, repeated 32 times. -/
def scales (s : Vec F S32x256 .bf16) : FVec F S1024x256 .bf16 :=
  concatenate S1024x256 0
    (List.ofFn fun g : Fin 32 => ⟨S32x256, broadcastTo S32x256
      (shapeCast S1x256 (extractStridedSlice S1x256 ![g.val, 0] s
        (scaleRow_slices g)) shapeCasts_S1x256_S1x256)
      broadcasts_S1x256_S32x256⟩)
    concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S1024x256_d0

/-- A tile's new accumulator: the old one plus the product of the permuted block and the scaled weights. -/
def tile (x : Vec F S32x1024 .bf16) (w : Vec F S512x256 .i8) (s : Vec F S32x256 .bf16) (acc : Vec F S32x256 .f32) :
    FVec F S32x256 .f32 :=
  shapeCast S32x256
    (addf acc (matmul dot_S32x1024_S1024x256_S32x256_1_0_0_1_n_n none (mix x)
      (mulf (sitofp .bf16 (weights w)) (scales s)) (constant S32x256 .f32 0x00000000#32)))
    shapeCasts_S32x256_S32x256

/-! ## The 26 stores -/

/-- A column at which a tile starts. -/
abbrev Col : Type := {o : ℕ // o + 256 ≤ 6656}

/-- The columns of the accumulator a tile owns. -/
abbrev accRect (o : Col) : Rect S32x6656 := Rect.unit ![0, o.val] ![32, 256] (fun a => match a with
  | ⟨0, _⟩ => le_refl 32
  | ⟨1, _⟩ => o.2)

/-- The columns of the packed bytes a tile reads. -/
abbrev byteRect (o : Col) : Rect S512x6656 := Rect.unit ![0, o.val] ![512, 256] (fun a => match a with
  | ⟨0, _⟩ => le_refl 512
  | ⟨1, _⟩ => o.2)

/-- The tiles' first columns, last first. -/
def cols : List Col :=
  [⟨6400, by decide⟩, ⟨6144, by decide⟩, ⟨5888, by decide⟩, ⟨5632, by decide⟩, ⟨5376, by decide⟩, ⟨5120, by decide⟩,
   ⟨4864, by decide⟩, ⟨4608, by decide⟩, ⟨4352, by decide⟩, ⟨4096, by decide⟩, ⟨3840, by decide⟩, ⟨3584, by decide⟩,
   ⟨3328, by decide⟩, ⟨3072, by decide⟩, ⟨2816, by decide⟩, ⟨2560, by decide⟩, ⟨2304, by decide⟩, ⟨2048, by decide⟩,
   ⟨1792, by decide⟩, ⟨1536, by decide⟩, ⟨1280, by decide⟩, ⟨1024, by decide⟩, ⟨768, by decide⟩, ⟨512, by decide⟩,
   ⟨256, by decide⟩, ⟨0, by decide⟩]

/-- What a tile stores, over the accumulator `a` it reads. -/
def store (x : Vec F S32x1024 .bf16) (w : Vec F S512x6656 .i8) (s : Vec F S32x6656 .bf16) (a : Vec F S32x6656 .f32)
    (o : Col) : View.Piece (Elt F) S32x6656 .f32 :=
  ⟨accRect o, tile x (View.ld w (byteRect o)) (View.ld s (accRect o)) (View.ld a (accRect o))⟩

/-- The stores of a point after the first: each tile reads what the point before left. -/
def stores (x : Vec F S32x1024 .bf16) (w : Vec F S512x6656 .i8) (s : Vec F S32x6656 .bf16) (a : Vec F S32x6656 .f32) :
    List (View.Piece (Elt F) S32x6656 .f32) :=
  cols.map (store x w s a)

set_option maxRecDepth 16384 in
/-- Case B: the point leaves the 26 stores over what the point before left. -/
theorem sout_B (c : Dev nD) (i : grid0.Coords) (arg1 : Memref sig .tc .vmem S32x1024 .bf16) (harg1 : arg1.IsWhole)
    (arg2 : Memref sig .tc .vmem S512x6656 .i8) (harg2 : arg2.IsWhole)
    (arg3 : Memref sig .tc .vmem S32x6656 .bf16) (harg3 : arg3.IsWhole)
    (arg4 : Memref sig .tc .vmem S32x6656 .bf16) (harg4 : arg4.IsWhole)
    (arg5 : Memref sig .tc .vmem S32x6656 .f32) (harg5 : arg5.IsWhole) (hc0 : ¬cond0_0 i) (hc1 : ¬cond0_1 i)
    (x0 : Vec F S32x1024 .bf16) (x1 : Vec F S512x6656 .i8) (x2 : Vec F S32x6656 .bf16) (xs0 : Vec F S32x6656 .f32) :
    sout0_B_0 c i arg1 harg1 arg2 harg2 arg3 harg3 arg4 harg4 arg5 harg5 hc0 hc1 x0 x1 x2 xs0
      = View.canon (stores x0 x1 x2 xs0) := by
  unfold sout0_B_0
  rw [View.read_writes_junk_eq_canon]
  refine Eq.trans (b := View.canon (stores (arg1.view.read (Elt F) (harg1.unread x0)) (arg2.view.read (Elt F) (harg2.unread x1))
    (arg3.view.read (Elt F) (harg3.unread x2)) (arg5.view.read (Elt F) (harg5.unread xs0)))) ?_ ?_
  · unfold kernelRun0_B
    dsimp only
    rfl
  · rw [harg1.read_unread, harg2.read_unread, harg3.read_unread, harg5.read_unread]

set_option maxRecDepth 16384 in
/-- Case C: the point leaves the 26 stores over what the point before left. -/
theorem sout_C (c : Dev nD) (i : grid0.Coords) (arg1 : Memref sig .tc .vmem S32x1024 .bf16) (harg1 : arg1.IsWhole)
    (arg2 : Memref sig .tc .vmem S512x6656 .i8) (harg2 : arg2.IsWhole)
    (arg3 : Memref sig .tc .vmem S32x6656 .bf16) (harg3 : arg3.IsWhole)
    (arg4 : Memref sig .tc .vmem S32x6656 .bf16) (harg4 : arg4.IsWhole)
    (arg5 : Memref sig .tc .vmem S32x6656 .f32) (harg5 : arg5.IsWhole) (hc0 : ¬cond0_0 i) (hc1 : cond0_1 i)
    (x0 : Vec F S32x1024 .bf16) (x1 : Vec F S512x6656 .i8) (x2 : Vec F S32x6656 .bf16) (xs0 : Vec F S32x6656 .f32) :
    sout0_C_0 c i arg1 harg1 arg2 harg2 arg3 harg3 arg4 harg4 arg5 harg5 hc0 hc1 x0 x1 x2 xs0
      = View.canon (stores x0 x1 x2 xs0) := by
  unfold sout0_C_0
  rw [View.read_writes_junk_eq_canon]
  refine Eq.trans (b := View.canon (stores (arg1.view.read (Elt F) (harg1.unread x0)) (arg2.view.read (Elt F) (harg2.unread x1))
    (arg3.view.read (Elt F) (harg3.unread x2)) (arg5.view.read (Elt F) (harg5.unread xs0)))) ?_ ?_
  · unfold kernelRun0_C
    dsimp only
    rfl
  · rw [harg1.read_unread, harg2.read_unread, harg3.read_unread, harg5.read_unread]

set_option maxRecDepth 16384 in
/-- Case C: the output is the new accumulator, narrowed. -/
theorem out_C (c : Dev nD) (i : grid0.Coords) (arg1 : Memref sig .tc .vmem S32x1024 .bf16) (harg1 : arg1.IsWhole)
    (arg2 : Memref sig .tc .vmem S512x6656 .i8) (harg2 : arg2.IsWhole)
    (arg3 : Memref sig .tc .vmem S32x6656 .bf16) (harg3 : arg3.IsWhole)
    (arg4 : Memref sig .tc .vmem S32x6656 .bf16) (harg4 : arg4.IsWhole)
    (arg5 : Memref sig .tc .vmem S32x6656 .f32) (harg5 : arg5.IsWhole) (hc0 : ¬cond0_0 i) (hc1 : cond0_1 i)
    (x0 : Vec F S32x1024 .bf16) (x1 : Vec F S512x6656 .i8) (x2 : Vec F S32x6656 .bf16) (xs0 : Vec F S32x6656 .f32) :
    out0_C_3 c i arg1 harg1 arg2 harg2 arg3 harg3 arg4 harg4 arg5 harg5 hc0 hc1 x0 x1 x2 xs0
      = truncf .bf16 (View.canon (stores x0 x1 x2 xs0)) bitsLt_bf16_f32 := by
  have hz : (![0, 0] : Fin 2 → Nat) = fun _ => 0 := funext fun a => by fin_cases a <;> rfl
  unfold out0_C_3
  rw [View.read_writes_junk_eq_canon]
  refine Eq.trans (b := View.canon [⟨Rect.unit ![0, 0] ![32, 6656] inb_S32x6656_S32x6656_0_0,
    truncf .bf16 (arg5.view.readCov (stores (arg1.view.read (Elt F) (harg1.unread x0))
      (arg2.view.read (Elt F) (harg2.unread x1)) (arg3.view.read (Elt F) (harg3.unread x2))
      (arg5.view.read (Elt F) (harg5.unread xs0)))
      (Rect.unit ![0, 0] ![32, 6656] inb_S32x6656_S32x6656_0_0).toLoadRect) bitsLt_bf16_f32⟩]) ?_ ?_
  · unfold kernelRun0_C
    dsimp only
    rfl
  · rw [harg1.read_unread, harg2.read_unread, harg3.read_unread, harg5.read_unread, View.readCov_eq_canon']
    exact (View.canon_unit_zero hz _ _).trans (congrArg (truncf .bf16 · bitsLt_bf16_f32)
      (View.ld_unit_zero (S := S32x6656) hz _ _))

/-- The stores of the first point, over the zero the accumulator is filled with: each tile reads what the stores before
    it left. -/
def stores₀ (v : View sig .tc .vmem S32x6656 .f32) (x : Vec F S32x1024 .bf16) (w : Vec F S512x6656 .i8)
    (s : Vec F S32x6656 .bf16) : List Col → List (View.Piece (Elt F) S32x6656 .f32)
  | [] => [⟨Rect.unit ![0, 0] ![32, 6656] inb_S32x6656_S32x6656_0_0, k0_pay4⟩]
  | o :: os => ⟨accRect o, tile x (View.ld w (byteRect o)) (View.ld s (accRect o))
      (v.readCov (stores₀ v x w s os) (accRect o).toLoadRect)⟩ :: stores₀ v x w s os

set_option maxRecDepth 16384 in
/-- Case A: the point leaves the zero fill and the 26 stores over it. -/
theorem sout_A (c : Dev nD) (i : grid0.Coords) (arg1 : Memref sig .tc .vmem S32x1024 .bf16) (harg1 : arg1.IsWhole)
    (arg2 : Memref sig .tc .vmem S512x6656 .i8) (harg2 : arg2.IsWhole)
    (arg3 : Memref sig .tc .vmem S32x6656 .bf16) (harg3 : arg3.IsWhole)
    (arg4 : Memref sig .tc .vmem S32x6656 .bf16) (harg4 : arg4.IsWhole)
    (arg5 : Memref sig .tc .vmem S32x6656 .f32) (harg5 : arg5.IsWhole) (hc0 : cond0_0 i) (hc1 : ¬cond0_1 i)
    (x0 : Vec F S32x1024 .bf16) (x1 : Vec F S512x6656 .i8) (x2 : Vec F S32x6656 .bf16) :
    sout0_A_0 c i arg1 harg1 arg2 harg2 arg3 harg3 arg4 harg4 arg5 harg5 hc0 hc1 x0 x1 x2
      = View.canon (stores₀ arg5.view x0 x1 x2 cols) := by
  unfold sout0_A_0
  rw [View.read_writes_junk_eq_canon]
  refine Eq.trans (b := View.canon (stores₀ arg5.view (arg1.view.read (Elt F) (harg1.unread x0)) (arg2.view.read (Elt F) (harg2.unread x1))
    (arg3.view.read (Elt F) (harg3.unread x2)) cols)) ?_ ?_
  · unfold kernelRun0_A
    dsimp only
    sl_kernel_rfl
  · rw [harg1.read_unread, harg2.read_unread, harg3.read_unread]

end Cert.KernelIdeal.Value
-- ==== Proof.Spec.lean ====
/-
  The two sides' common vocabulary and the equation between their orders of summing: one product of the dequantized
  matrix product, the sum over the input columns as the kernel takes it (sixteen blocks of 1024 permuted columns), and
  the same sum as the reference takes it (all low halves, then all high halves).
-/
module

public import Idealize.ShloMosaic.Lib.ValueIdx

@[expose] public section

noncomputable section

namespace Cert.Spec

open Idealize.ShloMosaic Idealize.ShloMosaic.ValueIdx
open scoped BigOperators

/-- The four bits of a byte that weight row `k` reads: the low four on an even row, the high four on an odd one. -/
def nib (k : ℕ) (b : BitVec 8) : ℕ := if k % 2 = 0 then b.toNat % 16 else b.toNat / 16

/-- One product of the result at row `r`, column `y`: the input at group `g`, half `h`, place `j`, times the weight there
    (four bits of a packed byte, less eight) scaled by the group's scale. -/
def term (X : FVec Ideal ⟨3, ![32, 1, 16384]⟩ .bf16) (W : IVec ⟨2, ![8192, 6656]⟩ 8) (S : FVec Ideal ⟨2, ![512, 6656]⟩ .bf16)
    (r : Fin 32) (y : Fin 6656) (g : Fin 512) (j : Fin 16) (h : Fin 2) : EReal :=
  X (ix3 r (0 : Fin 1) (⟨32 * g.val + 16 * h.val + j.val, by have := g.isLt; have := j.isLt; have := h.isLt; omega⟩ : Fin 16384)) *
    (((((nib h.val (W (ix2 (⟨16 * g.val + j.val, by have := g.isLt; have := j.isLt; omega⟩ : Fin 8192) y)) : ℤ) - 8 : ℤ) : ℝ) : EReal)
      * S (ix2 g y))

section Sums
variable {M : Type} [AddCommMonoid M]

/-- A sum over `a * b` places is the sum over `a` runs of `b` places. -/
theorem sum_runs (a b : ℕ) (f : Fin (a * b) → M) :
    ∑ k, f k = ∑ i : Fin a, ∑ j : Fin b, f (finProdFinEquiv (i, j)) := by
  rw [← Equiv.sum_comp finProdFinEquiv f, Fintype.sum_prod_type]

/-- The kernel's order of summing — block by block, and within a block by places `k` that name group `k / 32`, place
    `k % 32 / 2` and half `k % 2` — gives the reference's sum: every low half, plus every high half. -/
theorem sum_regroup (F : Fin 512 → Fin 16 → Fin 2 → M) :
    (∑ t : Fin 16, ∑ k : Fin 1024, F ⟨32 * t.val + k.val / 32, by have := t.isLt; have := k.isLt; omega⟩
        ⟨k.val % 32 / 2, by omega⟩ ⟨k.val % 2, by omega⟩)
      = (∑ g, ∑ j, F g j 0) + ∑ g, ∑ j, F g j 1 := by
  rw [← Finset.sum_add_distrib, sum_runs 16 32 fun g => (∑ j, F g j 0) + ∑ j, F g j 1]
  refine Finset.sum_congr rfl fun t _ => ?_
  rw [sum_runs 32 32 fun k : Fin 1024 => F ⟨32 * t.val + k.val / 32, _⟩ ⟨k.val % 32 / 2, _⟩ ⟨k.val % 2, _⟩]
  refine Finset.sum_congr rfl fun a _ => ?_
  rw [← Finset.sum_add_distrib, sum_runs 16 2]
  refine Finset.sum_congr rfl fun j _ => ?_
  rw [Fin.sum_univ_two]
  have place (h : Fin 2) (p1 p2 p3) : F ⟨32 * t.val + (finProdFinEquiv (a, finProdFinEquiv (j, h))).val / 32, p1⟩
      ⟨(finProdFinEquiv (a, finProdFinEquiv (j, h))).val % 32 / 2, p2⟩
      ⟨(finProdFinEquiv (a, finProdFinEquiv (j, h))).val % 2, p3⟩ = F (finProdFinEquiv (t, a)) j h := by
    have e : (finProdFinEquiv (a, finProdFinEquiv (j, h))).val = h.val + 2 * j.val + 32 * a.val := rfl
    have hh := h.isLt
    have hj := j.isLt
    have eg : (⟨32 * t.val + (finProdFinEquiv (a, finProdFinEquiv (j, h))).val / 32, p1⟩ : Fin 512)
        = finProdFinEquiv (t, a) := by
      apply Fin.ext
      show 32 * t.val + (finProdFinEquiv (a, finProdFinEquiv (j, h))).val / 32 = a.val + 32 * t.val
      rw [e]; omega
    have ej : (⟨(finProdFinEquiv (a, finProdFinEquiv (j, h))).val % 32 / 2, p2⟩ : Fin 16) = j := by
      apply Fin.ext
      show (finProdFinEquiv (a, finProdFinEquiv (j, h))).val % 32 / 2 = j.val
      rw [e]; omega
    have eh : (⟨(finProdFinEquiv (a, finProdFinEquiv (j, h))).val % 2, p3⟩ : Fin 2) = h := by
      apply Fin.ext
      show (finProdFinEquiv (a, finProdFinEquiv (j, h))).val % 2 = h.val
      rw [e]; omega
    rw [eg, ej, eh]
  exact congrArg₂ (· + ·) (place 0 _ _ _) (place 1 _ _ _)

end Sums

end Cert.Spec
-- ==== Proof.Block.lean ====
/-
  One grid point's arithmetic on the reals, read at an index: which column of `x` a lane comes from, which four bits a
  weight is, which scale a weight row has, and the sum a tile adds to its accumulator.
-/
module

public import proofs.«01_k».proof.Proof.Tile
public import proofs.«01_k».proof.Proof.Spec
public import Idealize.ShloMosaic.Lib.BitcastFour
public import Idealize.ShloMosaic.Lib.MatmulPlain
public import Idealize.ShloMosaic.Lib.ValueIdx
public import Idealize.ShloMosaic.Lib.IdealHost
public import Idealize.ShloMosaic.Lib.Pointwise.ElementwiseCore

@[expose] public section

noncomputable section

namespace Cert.KernelIdeal.Value

open Cert.KernelIdeal Cert.KernelIdeal.Gen Idealize.ShloMosaic Idealize.ShloMosaic.TcCoe Idealize.SL.Sem
open Idealize.ShloMosaic.ValueIdx Cert.Spec

/-! ## The permuted block -/

/-- The column of `x` that column `k` of the permuted block is taken from: within every 32 columns, the even places
    hold the first sixteen in order and the odd places the last sixteen. -/
def src (k : ℕ) : ℕ := 32 * (k / 32) + 16 * (k % 2) + k % 32 / 2

/-- The source column stays within the block. -/
theorem src_lt {k : ℕ} (h : k < 1024) : src k < 1024 := by unfold src; omega

/-- The lane a lane is taken from, as the word the kernel computes. -/
theorem laneSrc_toNat (r : Fin 32) (c : Fin 128) :
    ((select (cmpi .slt laneSrc (broadcast S32x128 0#32)) (addi laneSrc (broadcast S32x128 128#32)) laneSrc)
      (ix2 r c)).toNat % 128 = src c.val := by
  have key : ∀ c : Fin 128, ((select (cmpi .slt laneSrc (broadcast S32x128 0#32))
      (addi laneSrc (broadcast S32x128 128#32)) laneSrc) (ix2 (0 : Fin 32) c)).toNat % 128 = src c.val := by
    decide +kernel
  exact key c

/-- A permuted slice at an index. -/
theorem permute_apply (v : Vec Ideal S32x128 .bf16) (r : Fin 32) (c : Fin 128) (d : Fin 128) (hd : d.val = src c.val) :
    permute v (ix2 r c) = v (ix2 r d) := by
  unfold permute
  rw [truncf_apply, dynamicGather_apply, extf_apply, shapeCast_self]
  congr 1
  funext a
  apply Fin.ext
  match a with
  | ⟨0, _⟩ => rfl
  | ⟨1, _⟩ =>
    rw [shapeCast_shapeCast]
    exact (laneSrc_toNat r c).trans hd.symm

/-- The permuted block at an index. -/
theorem mix_apply (x : Vec Ideal S32x1024 .bf16) (r : Fin 32) (k : Fin 1024) :
    mix x (ix2 r k) = x (ix2 r ⟨src k.val, src_lt k.isLt⟩) := by
  unfold mix
  have hk := k.isLt
  refine (concatenate_ofFn_apply (t := S32x1024) (s₁ := S32x128) 1 _ _ rfl 128 rfl (ix2 r k) ⟨k.val / 128, by omega⟩ rfl
    (ix2 r ⟨k.val % 128, by omega⟩) rfl ?_).trans ?_
  · intro b hb
    match b with
    | ⟨0, _⟩ => rfl
    | ⟨1, _⟩ => exact absurd rfl hb
  · have hs : src (k.val % 128) < 128 := by unfold src; omega
    rw [permute_apply _ r ⟨k.val % 128, by omega⟩ ⟨src (k.val % 128), hs⟩ rfl, View.ld_apply]
    congr 1
    funext a
    apply Fin.ext
    rw [Rect.idx_unit_val]
    match a with
    | ⟨0, _⟩ => exact Nat.zero_add _
    | ⟨1, _⟩ => show 128 * (k.val / 128) + src (k.val % 128) = src k.val; unfold src; omega

/-! ## The weights -/

/-- Flipping the top bit of every four bits of a word, moving bits `4i … 4i+3` to the top and shifting them back down
    with their sign leaves those four bits, the top one flipped, as a signed number. -/
theorem nibble_shift (x : BitVec 32) (i : ℕ) (hi : i < 8) :
    ((x ^^^ 2290649224#32) <<< (28 - 4 * i)).sshiftRight 28 = ((x.extractLsb' (4 * i) 4) ^^^ 8#4).signExtend 32 := by
  have hmask : ∀ i < 8, ∀ q < 4, (2290649224#32).getLsbD (4 * i + q) = (8#4).getLsbD q := by decide
  apply BitVec.eq_of_getLsbD_eq
  intro q hq
  have bit : ∀ q < 4, ((x ^^^ 2290649224#32) <<< (28 - 4 * i)).getLsbD (28 + q)
      = ((x.extractLsb' (4 * i) 4) ^^^ 8#4).getLsbD q := by
    intro q hq
    rw [BitVec.getLsbD_shiftLeft, BitVec.getLsbD_xor, BitVec.getLsbD_xor, BitVec.getLsbD_extractLsb',
      show 28 + q - (28 - 4 * i) = 4 * i + q by omega, hmask i hi q hq]
    have h1 : 28 + q < 32 := by omega
    have h2 : ¬ (28 + q < 28 - 4 * i) := by omega
    simp [h1, h2, hq]
  rw [BitVec.getLsbD_sshiftRight, BitVec.getLsbD_signExtend]
  by_cases h : q < 4
  · rw [if_pos h, ← bit q h]
    have h1 : 28 + q < 32 := by omega
    have h2 : ¬ (32 ≤ q) := by omega
    simp [h1, hq, h2]
  · rw [if_neg h]
    have h1 : ¬ (28 + q < 32) := by omega
    have h2 : ¬ (32 ≤ q) := by omega
    rw [BitVec.msb_eq_getLsbD_last, BitVec.msb_eq_getLsbD_last, if_neg h1]
    have := bit 3 (by omega)
    rw [decide_eq_false h2, Bool.not_false, Bool.true_and, decide_eq_true hq, Bool.true_and]
    exact this

/-- Four bits of a byte, the top one flipped, read with their sign: the four bits' value less eight. -/
theorem nibble_value : ∀ (b : BitVec 8) (p : Fin 2),
    (((b.extractLsb' (4 * p.val) 4) ^^^ 8#4).signExtend 32).toInt = (nib p.val b : ℤ) - 8 := by
  decide +kernel

/-- Four bits of a word of four bytes are four bits of one of the bytes. -/
theorem word_bits (w : Vec Ideal S512x256 .i8) (a : Fin 128) (l : Fin 256) (i : ℕ) (hi : i < 8) (p : Fin 512)
    (hp : p.val = 4 * a.val + i / 2) :
    (bitcast S128x256 32 w bitcasts_S512x256_w8_S128x256_w32 (ix2 a l)).extractLsb' (4 * i) 4
      = (w (ix2 p l) : BitVec 8).extractLsb' (4 * (i % 2)) 4 := by
  apply BitVec.eq_of_getLsbD_eq
  intro q hq
  rw [BitVec.getLsbD_extractLsb', BitVec.getLsbD_extractLsb',
    bitcast_8_32_getLsbD_ix2 w bitcasts_S512x256_w8_S128x256_w32 a l (4 * i + q) (by omega) p (by omega),
    show (4 * i + q) % 8 = 4 * (i % 2) + q by omega]

/-- A tile's weight at an index: the four bits' value less eight. -/
theorem weights_toInt (w : Vec Ideal S512x256 .i8) (k : Fin 1024) (l : Fin 256) :
    (weights w (ix2 k l)).toInt = (nib k.val (w (ix2 ⟨k.val / 2, by have := k.isLt; omega⟩ l)) : ℤ) - 8 := by
  have hk := k.isLt
  have hi : k.val % 8 < 8 := Nat.mod_lt _ (by decide)
  have amount : ∀ i < 8, (IntOp.subi 28#32 (IntOp.muli 4#32 (BitVec.ofNat 32 i))).toNat = 28 - 4 * i := by decide
  unfold weights
  rw [shapeCast_apply _ _ (ix2 k l) (ix3 (⟨k.val / 8, by omega⟩ : Fin 128) (⟨k.val % 8, hi⟩ : Fin 8) l)
    (by
      rw [Shape.rowMajor_val_three, Shape.rowMajor_val_two]
      show (k.val / 8 * 8 + k.val % 8) * 256 + l.val = k.val * 256 + l.val
      omega)]
  show (IntOp.shrsi .vector (IntOp.shli .vector (broadcastTo S128x8x256 _ _ _)
    (IntOp.subi 28#32 (IntOp.muli 4#32 (iota .tc S128x8x256 32 [1] iota_S128x8x256_d1_w32 _)))) 28#32).toInt = _
  rw [iota_single_apply]
  rw [broadcastTo_apply _ _ _ (ix3 (⟨k.val / 8, by omega⟩ : Fin 128) (0 : Fin 1) l)
    (fun a => by match a with
      | ⟨0, _⟩ => rfl
      | ⟨1, _⟩ => rfl
      | ⟨2, _⟩ => rfl), shapeCast_self,
    shapeCast_apply _ _ _ (ix2 (⟨k.val / 8, by omega⟩ : Fin 128) l) (by
      rw [Shape.rowMajor_val_three, Shape.rowMajor_val_two]
      show k.val / 8 * 256 + l.val = (k.val / 8 * 1 + 0) * 256 + l.val
      omega)]
  have ha := amount (k.val % 8) hi
  show (IntOp.shrsi .vector (IntOp.shli .vector (bitcast S128x256 32 w bitcasts_S512x256_w8_S128x256_w32
    (ix2 (⟨k.val / 8, by omega⟩ : Fin 128) l) ^^^ 2290649224#32)
    (IntOp.subi 28#32 (IntOp.muli 4#32 (BitVec.ofNat 32 (k.val % 8))))) 28#32).toInt = _
  unfold IntOp.shrsi IntOp.shli
  rw [if_pos (by decide), if_pos (by rw [ha]; omega), BitVec.shiftLeft_eq', ha]
  show (BitVec.sshiftRight _ 28).toInt = _
  rw [nibble_shift _ _ hi, word_bits w _ l _ hi ⟨k.val / 2, by omega⟩ (by show k.val / 2 = 4 * (k.val / 8) + k.val % 8 / 2; omega),
    nibble_value _ ⟨k.val % 8 % 2, Nat.mod_lt _ (by decide)⟩]
  unfold nib
  rw [show k.val % 8 % 2 % 2 = k.val % 2 by omega]

/-! ## The scales -/

/-- A tile's scale at an index: the scale row of the weight row. -/
theorem scales_apply (s : Vec Ideal S32x256 .bf16) (k : Fin 1024) (l : Fin 256) :
    scales s (ix2 k l) = s (ix2 ⟨k.val / 32, by have := k.isLt; omega⟩ l) := by
  have hk := k.isLt
  unfold scales
  refine (concatenate_ofFn_apply (t := S1024x256) (s₁ := S32x256) 0 _ _ rfl 32 rfl (ix2 k l) ⟨k.val / 32, by omega⟩ rfl
    (ix2 ⟨k.val % 32, by omega⟩ l) rfl ?_).trans ?_
  · intro b hb
    match b with
    | ⟨0, _⟩ => exact absurd rfl hb
    | ⟨1, _⟩ => rfl
  · rw [broadcastTo_apply _ _ _ (ix2 (0 : Fin 1) l) (fun a => by match a with
      | ⟨0, _⟩ => rfl
      | ⟨1, _⟩ => rfl), shapeCast_self]
    exact extractStridedSlice_apply _ _ _ _ _ fun a => by match a with
      | ⟨0, _⟩ => rfl
      | ⟨1, _⟩ => exact (Nat.zero_add _).symm

/-! ## The tile -/

/-- A tile at an index: the accumulator there plus the sum of the 1024 products. -/
theorem tile_apply (x : Vec Ideal S32x1024 .bf16) (w : Vec Ideal S512x256 .i8) (s : Vec Ideal S32x256 .bf16)
    (acc : Vec Ideal S32x256 .f32) (r : Fin 32) (l : Fin 256) :
    tile x w s acc (ix2 r l) = acc (ix2 r l) + ∑ k : Fin 1024, x (ix2 r ⟨src k.val, src_lt k.isLt⟩) *
      (((((nib k.val (w (ix2 ⟨k.val / 2, by have := k.isLt; omega⟩ l)) : ℤ) - 8 : ℤ) : ℝ) : EReal)
        * s (ix2 ⟨k.val / 32, by have := k.isLt; omega⟩ l)) := by
  unfold tile
  rw [shapeCast_self, addf_apply]
  congr 1
  refine (Ideal.matmul_plain_apply (M := 32) (K := 1024) (N := 256) none (mix x) (mulf (sitofp .bf16 (weights w)) (scales s))
    (constant S32x256 .f32 0x00000000#32) r l).trans ?_
  rw [constant_apply, Ideal.ofBits_zero_f32, zero_add]
  refine Finset.sum_congr rfl fun k _ => ?_
  rw [mix_apply, mulf_apply, scales_apply]
  show _ * ((((weights w (ix2 k l)).toInt : ℝ) : EReal) * _) = _
  rw [weights_toInt]

/-! ## The stores -/

/-- What one grid point adds to the accumulator at an index: 1024 products. -/
def blockSum (x : Vec Ideal S32x1024 .bf16) (w : Vec Ideal S512x6656 .i8) (s : Vec Ideal S32x6656 .bf16) (r : Fin 32)
    (c : Fin 6656) : EReal :=
  ∑ k : Fin 1024, x (ix2 r ⟨src k.val, src_lt k.isLt⟩) *
    (((((nib k.val (w (ix2 ⟨k.val / 2, by have := k.isLt; omega⟩ c)) : ℤ) - 8 : ℤ) : ℝ) : EReal)
      * s (ix2 ⟨k.val / 32, by have := k.isLt; omega⟩ c))

/-- A tile read where its columns lie in the array: the accumulator there plus what the grid point adds there. -/
theorem tile_ld (x : Vec Ideal S32x1024 .bf16) (w : Vec Ideal S512x6656 .i8) (s : Vec Ideal S32x6656 .bf16)
    (acc : Vec Ideal S32x256 .f32) (o : Col) (z : (accRect o).shape.Idx) (r : Fin 32) (c : Fin 6656)
    (h : (accRect o).emb z = ix2 r c) :
    tile x (View.ld w (byteRect o)) (View.ld s (accRect o)) acc z = acc z + blockSum x w s r c := by
  obtain ⟨a, l, rfl⟩ : ∃ (a : Fin 32) (l : Fin 256), z = ix2 a l := ⟨z 0, z 1, eq_ix2 z⟩
  have e0 : a = r := Fin.ext ((Nat.zero_add _).symm.trans ((Rect.idx_unit_val _ _ _ _ _).symm.trans (congrArg (fun y => (y 0).val) h)))
  have e1 : o.val + l.val = c.val := (Rect.idx_unit_val _ _ _ _ _).symm.trans (congrArg (fun y => (y 1).val) h)
  subst e0
  rw [tile_apply]
  unfold blockSum
  congr 1
  refine Finset.sum_congr rfl fun k _ => ?_
  have ew : View.ld w (byteRect o) (ix2 ⟨k.val / 2, by have := k.isLt; omega⟩ l)
      = w (ix2 ⟨k.val / 2, by have := k.isLt; omega⟩ c) := by
    rw [View.ld_apply]
    congr 1
    funext b
    apply Fin.ext
    rw [Rect.idx_unit_val]
    match b with
    | ⟨0, _⟩ => exact Nat.zero_add _
    | ⟨1, _⟩ => exact e1
  have es : View.ld s (accRect o) (ix2 ⟨k.val / 32, by have := k.isLt; omega⟩ l)
      = s (ix2 ⟨k.val / 32, by have := k.isLt; omega⟩ c) := by
    rw [View.ld_apply]
    congr 1
    funext b
    apply Fin.ext
    rw [Rect.idx_unit_val]
    match b with
    | ⟨0, _⟩ => exact Nat.zero_add _
    | ⟨1, _⟩ => exact e1
  rw [ew, es]

/-- An index lies in a tile's columns exactly when its column does. -/
theorem mem_accRect (o : Col) (r : Fin 32) (c : Fin 6656) :
    ix2 r c ∈ (accRect o).set ↔ o.val ≤ c.val ∧ c.val < o.val + 256 := by
  rw [Rect.mem_set_unit]
  refine ⟨fun h => h 1, fun h a => ?_⟩
  match a with
  | ⟨0, _⟩ => exact ⟨Nat.zero_le _, by have := r.isLt; show r.val < 0 + 32; omega⟩
  | ⟨1, _⟩ => exact h

/-- The tiles cover every column. -/
theorem exists_col (c : Fin 6656) : ∃ o ∈ cols, o.val ≤ c.val ∧ c.val < o.val + 256 := by
  have hq : ∀ q < 26, 256 * q ∈ cols.map Subtype.val := by decide
  have hc := c.isLt
  obtain ⟨o, ho, h⟩ := List.mem_map.1 (hq (c.val / 256) (by omega))
  exact ⟨o, ho, by omega, by omega⟩

/-- No two tiles share a column: each starts at or after the end of those stored before it. -/
theorem cols_pairwise : cols.Pairwise fun o o' => o'.val + 256 ≤ o.val := by decide

/-- After a later point's stores the accumulator holds what it held plus what the point adds. -/
theorem canon_stores (x : Vec Ideal S32x1024 .bf16) (w : Vec Ideal S512x6656 .i8) (s : Vec Ideal S32x6656 .bf16)
    (a : Vec Ideal S32x6656 .f32) (r : Fin 32) (c : Fin 6656) :
    View.canon (stores x w s a) (ix2 r c) = a (ix2 r c) + blockSum x w s r c := by
  refine View.canon_eq_of_allAt _ _ _ ?_ ?_
  · obtain ⟨o, ho, h⟩ := exists_col c
    exact ⟨_, List.mem_map_of_mem ho, (mem_accRect o r c).2 h⟩
  · intro p hp z hz
    obtain ⟨o, _, rfl⟩ := List.mem_map.1 hp
    refine (tile_ld x w s _ o z r c hz).trans ?_
    exact congrArg (fun y => a y + blockSum x w s r c) hz

/-- Outside the columns stored so far the first point's accumulator is the zero fill. -/
theorem canon_stores₀_of_not_mem (v : View sig .tc .vmem S32x6656 .f32) (x : Vec Ideal S32x1024 .bf16)
    (w : Vec Ideal S512x6656 .i8) (s : Vec Ideal S32x6656 .bf16) (y : S32x6656.Idx) :
    ∀ os : List Col, (∀ o ∈ os, y ∉ (accRect o).set) → View.canon (stores₀ v x w s os) y = 0
  | [], _ => by
    have hz : (![0, 0] : Fin 2 → Nat) = fun _ => 0 := funext fun a => by fin_cases a <;> rfl
    exact (congrFun (View.canon_unit_zero (S := S32x6656) hz _ _) y).trans Ideal.ofBits_zero_f32
  | o :: os, h => by
    unfold stores₀
    rw [View.canon_cons_of_not_mem (⟨accRect o, _⟩ : View.Piece (Elt Ideal) S32x6656 .f32) _ (h o List.mem_cons_self)]
    exact canon_stores₀_of_not_mem v x w s y os fun o' ho' => h o' (List.mem_cons_of_mem _ ho')

/-- Where a column has been stored the first point's accumulator holds what the point adds. -/
theorem canon_stores₀_of_mem (v : View sig .tc .vmem S32x6656 .f32) (x : Vec Ideal S32x1024 .bf16)
    (w : Vec Ideal S512x6656 .i8) (s : Vec Ideal S32x6656 .bf16) (r : Fin 32) (c : Fin 6656) :
    ∀ os : List Col, (os.Pairwise fun o o' => o'.val + 256 ≤ o.val) → (∃ o ∈ os, o.val ≤ c.val ∧ c.val < o.val + 256) →
      View.canon (stores₀ v x w s os) (ix2 r c) = blockSum x w s r c
  | [], _, h => by obtain ⟨o, ho, _⟩ := h; exact absurd ho List.not_mem_nil
  | o :: os, hp, h => by
    obtain ⟨hd, hp'⟩ := List.pairwise_cons.1 hp
    by_cases hm : ix2 r c ∈ (accRect o).set
    · obtain ⟨z, hz⟩ := (accRect o).exists_idx_of_mem hm
      have hz' : (accRect o).emb z = ix2 r c := hz
      have e0 : View.canon (stores₀ v x w s os) (ix2 r c) = 0 :=
        canon_stores₀_of_not_mem v x w s _ os fun o' ho' hm' => by
          have h1 := (mem_accRect o r c).1 hm
          have h2 := (mem_accRect o' r c).1 hm'
          have h3 := hd o' ho'
          omega
      refine (congrArg (View.canon (stores₀ v x w s (o :: os))) hz'.symm).trans ?_
      refine (View.canon_cons_emb _ _ _ z).trans ((tile_ld x w s _ o z r c hz').trans ?_)
      rw [View.readCov_eq_canon']
      refine (congrArg (fun y => View.canon (stores₀ v x w s os) y + blockSum x w s r c) hz).trans ?_
      show View.canon (stores₀ v x w s os) (ix2 r c) + _ = _
      rw [e0, zero_add]
    · unfold stores₀
      rw [View.canon_cons_of_not_mem (⟨accRect o, _⟩ : View.Piece (Elt Ideal) S32x6656 .f32) _ hm]
      refine canon_stores₀_of_mem v x w s r c os hp' ?_
      obtain ⟨o', ho', h'⟩ := h
      rcases List.mem_cons.1 ho' with rfl | ho''
      · exact absurd ((mem_accRect _ r c).2 h') hm
      · exact ⟨o', ho'', h'⟩

/-- After the first point's stores the accumulator holds what the point adds. -/
theorem canon_stores₀ (v : View sig .tc .vmem S32x6656 .f32) (x : Vec Ideal S32x1024 .bf16) (w : Vec Ideal S512x6656 .i8)
    (s : Vec Ideal S32x6656 .bf16) (r : Fin 32) (c : Fin 6656) :
    View.canon (stores₀ v x w s cols) (ix2 r c) = blockSum x w s r c :=
  canon_stores₀_of_mem v x w s r c cols cols_pairwise (exists_col c)

end Cert.KernelIdeal.Value
-- ==== Proof.Array.lean ====
/-
  What the kernel leaves: the accumulator after each grid point is the sum of what the points so far add, the result
  array is the accumulator after the last one, and the run's result is that array reshaped.
-/
module

public import proofs.«01_k».proof.Proof.Block
public import Idealize.ShloMosaic.Lib.StableHlo.Run

@[expose] public section

noncomputable section

namespace Cert.KernelIdeal.Value

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-! ## The accumulator -/

/-- What grid point `t` adds to the accumulator at an index. -/
def pointSum (c : Dev nD) (t : Fin cfg0.N) (r : Fin 32) (y : Fin 6656) : EReal :=
  blockSum (iblk m c 0 t) (iblk m c 1 t) (iblk m c 2 t) r y

/-- The accumulator after grid point `n` is the sum of what points `0 … n` add. -/
theorem scratch_apply (c : Dev nD) (r : Fin 32) (y : Fin 6656) : ∀ (n : ℕ) (h : n < cfg0.N),
    (outsAt0 m c n h).2 (ix2 r y) = ∑ t : Fin (n + 1), pointSum m c ⟨t.val, Nat.lt_of_le_of_lt (Nat.le_of_lt_succ t.isLt) h⟩ r y
  | 0, h => by
    rw [outsAt0_A m c ⟨0, h⟩ rfl (show ¬ 0 % 16 = 15 by decide), Fin.sum_univ_one]
    dsimp only
    rw [sout_A, canon_stores₀]
    rfl
  | n + 1, h => by
    have hN : n + 1 < 16 := lt_of_lt_of_eq h (show cfg0.N = 16 from N_0)
    have h0 : ¬ (⟨n + 1, h⟩ : Fin cfg0.N).val % 16 = 0 := by dsimp only; omega
    rw [Fin.sum_univ_castSucc]
    have ih := scratch_apply c r y n (Nat.lt_of_succ_lt h)
    by_cases h1 : (⟨n + 1, h⟩ : Fin cfg0.N).val % 16 = 15
    · rw [outsAt0_C m c ⟨n + 1, h⟩ h0 h1]
      dsimp only
      rw [sout_C, canon_stores]
      exact congrArg (· + _) ih
    · rw [outsAt0_B m c ⟨n + 1, h⟩ h0 h1]
      dsimp only
      rw [sout_B, canon_stores]
      exact congrArg (· + _) ih

/-! ## The result array -/

/-- The last grid point. -/
def lastPt : Fin cfg0.N := ⟨15, lt_of_lt_of_eq (by decide) N_0.symm⟩

/-- The result array's contents: the accumulator after the last grid point. -/
def result (c : Dev nD) : Buf (Elt Ideal) ((c : Thread nD τ).loc main_v1) := (outsAt0 m c lastPt.val lastPt.isLt).1

/-- The result at an index: the sum of what all sixteen points add. -/
theorem result_apply (c : Dev nD) (r : Fin 32) (y : Fin 6656) :
    result m c (ix2 r y) = ∑ t : Fin 16, pointSum m c ⟨t.val, lt_of_lt_of_eq t.isLt N_0.symm⟩ r y := by
  have h0 : ¬ lastPt.val % 16 = 0 := by decide
  have h1 : lastPt.val % 16 = 15 := by decide
  have e := scratch_apply m c r y lastPt.val lastPt.isLt
  rw [outsAt0_C m c lastPt h0 h1] at e
  unfold result
  rw [outsAt0_C m c lastPt h0 h1]
  dsimp only at e ⊢
  rw [sout_C] at e
  rw [out_C, truncf_apply]
  exact e

/-- The result's window stays at block (0, 0), which is the array. -/
theorem index3 (t : Fin cfg0.N) : (fun a => win0_3.index t a * main_v1.ty.shape.size a) = fun _ => 0 := by
  have h : ∀ t : Fin grid0.N, win0_3.index t (0 : Fin 2) = 0 ∧ win0_3.index t (1 : Fin 2) = 0 := by decide +kernel
  funext a
  match a with
  | ⟨0, _⟩ => show win0_3.index t (0 : Fin 2) * _ = 0; rw [(h t).1, Nat.zero_mul]
  | ⟨1, _⟩ => show win0_3.index t (1 : Fin 2) * _ = 0; rw [(h t).2, Nat.zero_mul]

/-- The one write-back, at the last point, writes the result. -/
theorem flushed_eq (c : Dev nD) (t : Fin cfg0.N) (hf : (cfg0.win 3).flush t = true) :
    (dats m 0 c).flushed 3 t = ((cfg0.win 3).blk t).view.read (Elt Ideal) (result m c) := by
  have hN : t.val < 16 := lt_of_lt_of_eq t.isLt (show cfg0.N = 16 from N_0)
  have h15 : t.val % 16 = 15 := (flush0_3 t).mp hf
  obtain rfl : t = lastPt := Fin.ext (by show t.val = 15; omega)
  show (cfg0.win 3).cut (grid0.coords lastPt) ((dats m 0 c).after 3 lastPt) = _
  rw [after0_3]
  exact (Memref.read_access_unit_zero (Elt Ideal) main_v1 (index3 lastPt)
    (fun a => by rw [congrFun (index3 lastPt) a]; simp) (result m c)).symm

/-- So the result array ends holding the accumulator after the last point. -/
theorem final (c : Dev nD) : (dats m 0 c).arrAt 3 cfg0.N = result m c :=
  (dats m 0 c).arrAt_eq_of_cover 3 (result m c) (flushed_eq m c) fun i =>
    ⟨lastPt, (flush0_3 lastPt).mpr (by decide), by
      show i ∈ ((View.whole main_v1).slice (win0_3.rect lastPt)).set
      rw [View.set_slice_whole, Rect.mem_set_unit]
      intro a
      have e : win0_3.index lastPt a * main_v1.ty.shape.size a = 0 := congrFun (index3 lastPt) a
      show win0_3.index lastPt a * main_v1.ty.shape.size a ≤ (i a).val ∧
        (i a).val < win0_3.index lastPt a * main_v1.ty.shape.size a + main_v1.ty.shape.size a
      rw [e]
      exact ⟨Nat.zero_le _, by rw [Nat.zero_add]; exact (i a).isLt⟩⟩

/-! ## The blocks the points read -/

/-- The printed index maps: point `t` reads block `(0, t)` of `x` and block `(t, 0)` of the bytes and of the scales. -/
theorem index_in (t : Fin cfg0.N) : win0_0.index t (0 : Fin 2) = 0 ∧ win0_0.index t (1 : Fin 2) = t.val
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, win0_0.index t (0 : Fin 2) = 0 ∧ win0_0.index t (1 : Fin 2) = t.val
    ∧ win0_1.index t (0 : Fin 2) = t.val ∧ win0_1.index t (1 : Fin 2) = 0
    ∧ win0_2.index t (0 : Fin 2) = t.val ∧ win0_2.index t (1 : Fin 2) = 0) t

/-- The region finds `x` flattened to one row per token. -/
theorem V_main_v0 (c : Dev nD) :
    V m c main_v0 = shapeCast S32x16384 (m ((c : Thread nD τ).loc main_arg0)) shapeCasts_S32x1x16384_S32x16384 := by
  show StableHlo.after hostOps0 (fun b => m (c, b)) (Proc.devRef .tc main_v0) = _
  dsimp only [hostOps0]
  after_results <;> rfl

/-- Point `t`'s block of `x` at an index. -/
theorem iblk0_apply (c : Dev nD) (t : Fin cfg0.N) (r : Fin 32) (k : Fin 1024) :
    (iblk m c 0 t : Vec Ideal S32x1024 .bf16) (ix2 r k)
      = (m ((c : Thread nD τ).loc main_arg0) : Vec Ideal S32x1x16384 .bf16) (ix3 r (0 : Fin 1) (⟨1024 * t.val + k.val, by
          have h1 := lt_of_lt_of_eq t.isLt (show cfg0.N = 16 from N_0)
          have h2 := k.isLt
          omega⟩ : Fin 16384)) := by
  have hi := index_in t
  have ht := lt_of_lt_of_eq t.isLt (show cfg0.N = 16 from N_0)
  have hk := k.isLt
  unfold iblk
  rw [View.read_apply]
  refine (congrFun (V_main_v0 m c) _).trans ?_
  refine shapeCast_apply (t := S32x16384) _ _ _ _ ?_
  refine (Shape.rowMajor_val_three (d := ![32, 1, 16384]) _).trans (Eq.trans ?_ (Shape.rowMajor_val_two (d := ![32, 16384]) _).symm)
  show (r.val * 1 + 0) * 16384 + (1024 * t.val + k.val)
    = (win0_0.index t (0 : Fin 2) * 32 + 1 * r.val) * 16384 + (win0_0.index t (1 : Fin 2) * 1024 + 1 * k.val)
  rw [hi.1, hi.2.1]
  omega

/-- Point `t`'s block of the packed bytes at an index. -/
theorem iblk1_apply (c : Dev nD) (t : Fin cfg0.N) (p : Fin 512) (y : Fin 6656) :
    (iblk m c 1 t : Vec Ideal S512x6656 .i8) (ix2 p y)
      = (m ((c : Thread nD τ).loc main_arg1) : Vec Ideal S8192x6656 .i8) (ix2 (⟨512 * t.val + p.val, by
          have h1 := lt_of_lt_of_eq t.isLt (show cfg0.N = 16 from N_0)
          have h2 := p.isLt
          omega⟩ : Fin 8192) y) := by
  have hi := index_in t
  unfold iblk
  rw [View.read_apply]
  refine (congrFun (V_main_arg1 m c) _).trans ?_
  refine congrArg (m ((c : Thread nD τ).loc main_arg1)) (funext fun a => Fin.ext ?_)
  match a with
  | ⟨0, _⟩ => show win0_1.index t (0 : Fin 2) * 512 + 1 * p.val = 512 * t.val + p.val; rw [hi.2.2.1]; omega
  | ⟨1, _⟩ => show win0_1.index t (1 : Fin 2) * 6656 + 1 * y.val = y.val; rw [hi.2.2.2.1]; omega

/-- Point `t`'s block of the scales at an index. -/
theorem iblk2_apply (c : Dev nD) (t : Fin cfg0.N) (g : Fin 32) (y : Fin 6656) :
    (iblk m c 2 t : Vec Ideal S32x6656 .bf16) (ix2 g y)
      = (m ((c : Thread nD τ).loc main_arg2) : Vec Ideal S512x6656 .bf16) (ix2 (⟨32 * t.val + g.val, by
          have h1 := lt_of_lt_of_eq t.isLt (show cfg0.N = 16 from N_0)
          have h2 := g.isLt
          omega⟩ : Fin 512) y) := by
  have hi := index_in t
  unfold iblk
  rw [View.read_apply]
  refine (congrFun (V_main_arg2 m c) _).trans ?_
  refine congrArg (m ((c : Thread nD τ).loc main_arg2)) (funext fun a => Fin.ext ?_)
  match a with
  | ⟨0, _⟩ => show win0_2.index t (0 : Fin 2) * 32 + 1 * g.val = 32 * t.val + g.val; rw [hi.2.2.2.2.1]; omega
  | ⟨1, _⟩ => show win0_2.index t (1 : Fin 2) * 6656 + 1 * y.val = y.val; rw [hi.2.2.2.2.2]; omega

/-! ## The run -/

/-- The reshaped result, at @main's result buffer. -/
def out (c : Dev nD) : Buf (Elt Ideal) ((c : Thread nD τ).loc main_v2) :=
  shapeCast S32x1x6656 (result m c : Vec Ideal S32x6656 .bf16) shapeCasts_S32x6656_S32x1x6656

/-- The operation after the region leaves the region's result reshaped. -/
theorem tail_eq (c : Dev nD) : Pipeline.afterTail₀ cfgs (dats m) 0 (V0 m) [hostOps1] c main_v2 = out m c := by
  have e : Pipeline.withArrays (cfgs 0).spec c (V0 m c) (fun w => (dats m 0 c).arrAt w (cfgs 0).N) (Proc.devRef .tc main_v1)
      = result m c :=
    (Pipeline.withArrays_arr spec0 (by decide) c (V0 m c) (fun w => (dats m 0 c).arrAt w cfg0.N) 3).trans (final m c)
  unfold Pipeline.afterTail₀ out
  rw [← e]
  after_results <;> rfl

/-- The run: the result buffer ends at the reshaped result and the arguments end unchanged. -/
theorem run : θ_run defs (onTc (τ := τ) (main (F := Ideal))) ⟨m, fun _ => 0, ρ⟩ fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).trans (tail_eq m c), (h.2 c).1, (h.2 c).2.1, (h.2 c).2.2⟩)
    (θ_run_and ((θ_run defs _ _).mono (fun _ h c =>
      (h c).2 main_v2 (Pipeline.mem_restRefs_of main_v2 (by decide) (by decide))) (run_main m ρ)) (unchanged m ρ))

end Cert.KernelIdeal.Value
-- ==== Proof.Reference.lean ====
/-
  What the reference computes, read at an index: the sum of all low-half products plus the sum of all high-half products.
-/
module

public import proofs.«01_k».proof.Proof.Spec
public import proofs.«01_k».proof.Proof.Gen.ReferenceIdeal.Read
public import Idealize.ShloMosaic.Lib.TwoAxisContraction
public import Idealize.ShloMosaic.Lib.MatmulPlain
public import Idealize.ShloMosaic.Lib.IdealHost

@[expose] public section

noncomputable section

namespace Cert.ReferenceIdeal.Value

open Cert.ReferenceIdeal Cert.ReferenceIdeal.Gen Cert.ReferenceIdeal.Read Cert.Spec
open Idealize.ShloMosaic Idealize.ShloMosaic.TcCoe Idealize.SL.Sem Idealize.ShloMosaic.ValueIdx
open scoped BigOperators

/-- The reference's contraction at an index: the double sum over groups and places. -/
theorem dot_apply (L : FVec Ideal S32x1x512x16 .bf16) (R : FVec Ideal S512x16x6656 .bf16) (r : Fin 32) (y : Fin 6656) :
    (Host.dotGeneral dot_S32x1x512x16_S512x16x6656_S32x1x6656_23_01_01_2_n_n none L R : FVec Ideal S32x1x6656 .f32)
        (ix3 r (0 : Fin 1) y)
      = ∑ g : Fin 512, ∑ j : Fin 16, L (ix4 r (0 : Fin 1) g j) * R (ix3 g j y) := by
  let D := dot_S32x1x512x16_S512x16x6656_S32x1x6656_23_01_01_2_n_n
  have hr : D.contr.rank = 2 := rfl
  have c0 : D.contr.size ⟨0, by rw [hr]; omega⟩ = 512 := rfl
  have c1 : D.contr.size ⟨1, by rw [hr]; omega⟩ = 16 := rfl
  show FloatOps.dotGeneral D none _ L R (ix3 r (0 : Fin 1) y) = _
  rw [Ideal.dotGeneral_apply]
  rw [sum_contr2 D 512 16 hr c0 c1]
  refine Finset.sum_congr rfl fun g _ => Finset.sum_congr rfl fun j _ => ?_
  have h0 := contrEquiv2_symm_val0 D 512 16 hr c0 c1 (g, j)
  have h1 := contrEquiv2_symm_val1 D 512 16 hr c0 c1 (g, j)
  have el : D.lhsIdx (ix3 r (0 : Fin 1) y) ((contrEquiv2 D 512 16 hr c0 c1).symm (g, j)) = ix4 r (0 : Fin 1) g j := by
    funext a; apply Fin.ext
    match a with
    | ⟨0, _⟩ => rfl
    | ⟨1, _⟩ => rfl
    | ⟨2, _⟩ => exact h0
    | ⟨3, _⟩ => exact h1
  have er : D.rhsIdx (ix3 r (0 : Fin 1) y) ((contrEquiv2 D 512 16 hr c0 c1).symm (g, j)) = ix3 g j y := by
    funext a; apply Fin.ext
    match a with
    | ⟨0, _⟩ => exact h0
    | ⟨1, _⟩ => exact h1
    | ⟨2, _⟩ => rfl
  rw [el, er]

/-- The bf16 word the reference subtracts is eight. -/
theorem eight : Ideal.ofBits .bf16 0x4100#16 = ((8 : ℝ) : EReal) := by
  simp [Ideal.ofBits, Ideal.ieee, -EReal.coe_mul]; norm_num

/-- The low four bits of a byte, as the reference masks them out. -/
theorem low_toInt : ∀ b : BitVec 8, (IntOp.andi (b.setWidth 32) 15#32).toInt = (nib 0 b : ℤ) := by decide +kernel

/-- The high four bits of a byte, as the reference shifts them down. -/
theorem high_toInt : ∀ b : BitVec 8, (IntOp.shrsi .host (b.setWidth 32) 4#32).toInt = (nib 1 b : ℤ) := by decide +kernel

/-- A four-bit value less eight, taken on the reals or on the integers. -/
theorem less_eight (n : ℤ) : (((n : ℝ) : EReal)) - ((8 : ℝ) : EReal) = (((n - 8 : ℤ) : ℝ) : EReal) := by
  rw [← EReal.coe_sub]
  norm_cast

variable (X : FVec Ideal S32x1x16384 .bf16) (W : IVec S8192x6656 8) (S : FVec Ideal S512x6656 .bf16)

/-- The packed byte of a weight row, widened. -/
theorem byte_apply (g : Fin 512) (j : Fin 16) (y : Fin 6656) : val_main_v1 (F := Ideal) W (ix3 g j y)
    = (W (ix2 (⟨16 * g.val + j.val, by have := g.isLt; have := j.isLt; omega⟩ : Fin 8192) y)).setWidth 32 := by
  have hg := g.isLt; have hj := j.isLt; have hy := y.isLt
  rw [val_main_v1_apply, val_main_v0_apply]
  congr 2
  funext a; apply Fin.ext
  match a with
  | ⟨0, _⟩ => show ((g.val * 16 + j.val) * 6656 + y.val) / 6656 = 16 * g.val + j.val; omega
  | ⟨1, _⟩ => show ((g.val * 16 + j.val) * 6656 + y.val) % 6656 = y.val; omega

/-- The low half's scaled weight at an index. -/
theorem low_apply (g : Fin 512) (j : Fin 16) (y : Fin 6656) : val_main_v9 (F := Ideal) W S (ix3 g j y)
    = ((((nib 0 (W (ix2 (⟨16 * g.val + j.val, by have := g.isLt; have := j.isLt; omega⟩ : Fin 8192) y)) : ℤ) - 8 : ℤ) : ℝ) : EReal)
      * S (ix2 g y) := by
  rw [val_main_v9_apply, val_main_v7_apply, val_main_v5_apply, val_main_v4_apply, val_main_v3_apply, val_main_c_apply,
    byte_apply, val_main_v6_apply, val_main_cst_apply, val_main_v8_apply, val_main_v2_apply]
  show ((((IntOp.andi (BitVec.setWidth 32 _) 15#32).toInt : ℝ) : EReal) - Ideal.ofBits .bf16 0x4100#16) * S _ = _
  rw [low_toInt, eight, less_eight]
  congr 2
  funext a
  match a with
  | ⟨0, _⟩ => rfl
  | ⟨1, _⟩ => rfl

/-- The high half's scaled weight at an index. -/
theorem high_apply (g : Fin 512) (j : Fin 16) (y : Fin 6656) : val_main_v16 (F := Ideal) W S (ix3 g j y)
    = ((((nib 1 (W (ix2 (⟨16 * g.val + j.val, by have := g.isLt; have := j.isLt; omega⟩ : Fin 8192) y)) : ℤ) - 8 : ℤ) : ℝ) : EReal)
      * S (ix2 g y) := by
  rw [val_main_v16_apply, val_main_v14_apply, val_main_v12_apply, val_main_v11_apply, val_main_v10_apply, val_main_c_0_apply,
    byte_apply, val_main_v13_apply, val_main_cst_1_apply, val_main_v15_apply, val_main_v2_apply]
  show ((((IntOp.shrsi .host (BitVec.setWidth 32 _) 4#32).toInt : ℝ) : EReal) - Ideal.ofBits .bf16 0x4100#16) * S _ = _
  rw [high_toInt, eight, less_eight]
  congr 2
  funext a
  match a with
  | ⟨0, _⟩ => rfl
  | ⟨1, _⟩ => rfl

/-- The input, cut into groups of 32, at an index. -/
theorem input_apply (r : Fin 32) (g : Fin 512) (k : Fin 32) : val_main_v17 (F := Ideal) X (ix4 r (0 : Fin 1) g k)
    = X (ix3 r (0 : Fin 1) (⟨32 * g.val + k.val, by have := g.isLt; have := k.isLt; omega⟩ : Fin 16384)) := by
  have hr := r.isLt; have hg := g.isLt; have hk := k.isLt
  rw [val_main_v17_apply]
  congr 1
  funext a; apply Fin.ext
  match a with
  | ⟨0, _⟩ => show (((r.val * 1 + 0) * 512 + g.val) * 32 + k.val) / 16384 = r.val; omega
  | ⟨1, _⟩ => rfl
  | ⟨2, _⟩ => show (((r.val * 1 + 0) * 512 + g.val) * 32 + k.val) % 16384 = 32 * g.val + k.val; omega

/-- The reference's result at an index. -/
theorem ref_apply (r : Fin 32) (y : Fin 6656) : val_main_v23 (F := Ideal) X W S (ix3 r (0 : Fin 1) y)
    = (∑ g, ∑ j, term X W S r y g j 0) + ∑ g, ∑ j, term X W S r y g j 1 := by
  rw [val_main_v23_apply, val_main_v22_apply]
  show val_main_v19 (F := Ideal) X W S (ix3 r (0 : Fin 1) y) + val_main_v21 (F := Ideal) X W S (ix3 r (0 : Fin 1) y) = _
  unfold val_main_v19 val_main_v21
  rw [dot_apply, dot_apply]
  refine congrArg₂ (· + ·) (Finset.sum_congr rfl fun g _ => Finset.sum_congr rfl fun j _ => ?_)
    (Finset.sum_congr rfl fun g _ => Finset.sum_congr rfl fun j _ => ?_)
  · rw [low_apply, val_main_v18_apply]
    have hj := j.isLt
    refine congrArg (· * _) ((congrArg (val_main_v17 (F := Ideal) X) ?_).trans (input_apply X r g ⟨j.val, by omega⟩))
    funext a
    match a with
    | ⟨0, _⟩ => rfl
    | ⟨1, _⟩ => rfl
    | ⟨2, _⟩ => rfl
    | ⟨3, _⟩ => rfl
  · rw [high_apply, val_main_v20_apply]
    have hj := j.isLt
    refine congrArg (· * _) ((congrArg (val_main_v17 (F := Ideal) X) ?_).trans
      ((input_apply X r g ⟨16 + j.val, by omega⟩).trans ?_))
    · funext a
      match a with
      | ⟨0, _⟩ => rfl
      | ⟨1, _⟩ => rfl
      | ⟨2, _⟩ => rfl
      | ⟨3, _⟩ => rfl
    · congr 2
      apply Fin.ext
      show 32 * g.val + (16 + j.val) = 32 * g.val + 16 * 1 + j.val
      omega

end Cert.ReferenceIdeal.Value
-- ==== Proof.Equation.lean ====
/-
  The equation: the kernel's result array is the reference's function of the same three arguments.
-/
module

public import proofs.«01_k».proof.Proof.Array
public import proofs.«01_k».proof.Proof.Reference

@[expose] public section

noncomputable section

namespace Cert.KernelIdeal.Value

open Cert.KernelIdeal Cert.KernelIdeal.Gen Idealize.ShloMosaic Idealize.ShloMosaic.TcCoe Idealize.SL.Sem
open Idealize.ShloMosaic.ValueIdx Cert.Spec
open scoped BigOperators

variable (m : (ℓ : Loc nD τ sig) → Buf (Elt Ideal) ℓ)

/-- What a grid point adds, as products of the specification: the group, place and half of each are read off `k`. -/
theorem pointSum_eq (c : Dev nD) (t : Fin 16) (r : Fin 32) (y : Fin 6656) :
    pointSum m c ⟨t.val, lt_of_lt_of_eq t.isLt N_0.symm⟩ r y = ∑ k : Fin 1024,
      term (m ((c : Thread nD τ).loc main_arg0)) (m ((c : Thread nD τ).loc main_arg1)) (m ((c : Thread nD τ).loc main_arg2)) r y
        ⟨32 * t.val + k.val / 32, by have := t.isLt; have := k.isLt; omega⟩ ⟨k.val % 32 / 2, by omega⟩ ⟨k.val % 2, by omega⟩ := by
  unfold pointSum blockSum
  refine Finset.sum_congr rfl fun k _ => ?_
  have hk := k.isLt
  have ht := t.isLt
  have en (b : BitVec 8) : nib k.val b = nib (k.val % 2) b := by
    unfold nib
    rw [Nat.mod_mod]
  have ex : (⟨1024 * t.val + src k.val, by have := src_lt hk; omega⟩ : Fin 16384)
      = ⟨32 * (32 * t.val + k.val / 32) + 16 * (k.val % 2) + k.val % 32 / 2, by omega⟩ := by
    apply Fin.ext
    show 1024 * t.val + src k.val = 32 * (32 * t.val + k.val / 32) + 16 * (k.val % 2) + k.val % 32 / 2
    unfold src
    omega
  have ew : (⟨512 * t.val + k.val / 2, by omega⟩ : Fin 8192)
      = ⟨16 * (32 * t.val + k.val / 32) + k.val % 32 / 2, by omega⟩ := by
    apply Fin.ext
    show 512 * t.val + k.val / 2 = 16 * (32 * t.val + k.val / 32) + k.val % 32 / 2
    omega
  rw [en]
  unfold term
  refine congrArg₂ (· * ·) ((iblk0_apply m c _ r _).trans (congrArg (fun q => (m ((c : Thread nD τ).loc main_arg0) : Vec Ideal S32x1x16384 .bf16) (ix3 r (0 : Fin 1) q)) ex))
    (congrArg₂ (· * ·) (congrArg (fun b : BitVec 8 => ((((nib (k.val % 2) b : ℤ) - 8 : ℤ) : ℝ) : EReal)) ?_) (iblk2_apply m c _ _ y))
  exact (iblk1_apply m c _ _ y).trans (congrArg (fun q => (m ((c : Thread nD τ).loc main_arg1) : Vec Ideal S8192x6656 .i8) (ix2 q y)) ew)

/-- The kernel's result is the reference's, everywhere. -/
theorem out_eq (c : Dev nD) : out m c = Cert.ReferenceIdeal.Read.val_main_v23 (F := Ideal)
    (m ((c : Thread nD τ).loc main_arg0)) (m ((c : Thread nD τ).loc main_arg1)) (m ((c : Thread nD τ).loc main_arg2)) := by
  funext z
  obtain ⟨r, u, y, rfl⟩ : ∃ (r : Fin 32) (u : Fin 1) (y : Fin 6656), z = ix3 r u y := ⟨z 0, z 1, z 2, eq_ix3 z⟩
  obtain rfl : u = 0 := Subsingleton.elim _ _
  refine Eq.trans ?_ (Cert.ReferenceIdeal.Value.ref_apply _ _ _ r y).symm
  rw [← sum_regroup]
  refine (shapeCast_apply (s := S32x6656) (t := S32x1x6656) _ _ _ (ix2 r y) ?_).trans ?_
  · refine (Shape.rowMajor_val_two (d := ![32, 6656]) _).trans (Eq.trans ?_ (Shape.rowMajor_val_three (d := ![32, 1, 6656]) _).symm)
    show r.val * 6656 + y.val = (r.val * 1 + 0) * 6656 + y.val
    omega
  · exact (result_apply m c r y).trans (Finset.sum_congr (M := EReal) rfl fun t _ => pointSum_eq m c t r y)

end Cert.KernelIdeal.Value
-- ==== Proof.lean ====
/-
  The certificate: the frames of the kernel and of the reference, and the equality of their results over the extended
  reals. The equality itself is `Cert.KernelIdeal.Value.out_eq` (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments unchanged and ends with every semaphore at zero: it declares none. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- From equal arguments the kernel and the reference end with equal results, both their arguments unchanged. -/
theorem algebraic : Cert.algebraic_KernelIdeal_ReferenceIdeal := by
  intro m ρ m' ρ' _ hm
  refine ⟨Cert.KernelIdeal.Value.out m, Cert.KernelIdeal.Value.run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2⟩ := hm c
  refine (Cert.ReferenceIdeal.Read.val_main_v23_eq _ _ _).trans ?_
  rw [e0, e1, e2]
  exact (Cert.KernelIdeal.Value.out_eq m c).symm

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
